-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3 : Shape := ⟨3, ![4, 8192, 3]⟩
abbrev S128x6 : Shape := ⟨2, ![128, 6]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1408x512 : Shape := ⟨2, ![1408, 512]⟩
abbrev S1408 : Shape := ⟨1, ![1408]⟩
abbrev S1024x1408 : Shape := ⟨2, ![1024, 1408]⟩
abbrev S1024 : Shape := ⟨1, ![1024]⟩
abbrev S1x1x1408 : Shape := ⟨3, ![1, 1, 1408]⟩
abbrev S128x3 : Shape := ⟨2, ![128, 3]⟩
abbrev S1408x128 : Shape := ⟨2, ![1408, 128]⟩
abbrev S1x1408 : Shape := ⟨2, ![1, 1408]⟩
abbrev S1x1024 : Shape := ⟨2, ![1, 1024]⟩
abbrev S4x1024 : Shape := ⟨2, ![4, 1024]⟩
abbrev S512x1408 : Shape := ⟨2, ![512, 1408]⟩
abbrev S1x512 : Shape := ⟨2, ![1, 512]⟩
abbrev S4x512 : Shape := ⟨2, ![4, 512]⟩

abbrev nBuf : Space → Nat
  | .hbm => 28
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S128x6, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256x128, .f32⟩
  | .hbm, ⟨7, _⟩ => ⟨S256, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1408x512, .f32⟩
  | .hbm, ⟨15, _⟩ => ⟨S1408, .f32⟩
  | .hbm, ⟨16, _⟩ => ⟨S1024x1408, .f32⟩
  | .hbm, ⟨17, _⟩ => ⟨S1024, .f32⟩
  | .hbm, ⟨18, _⟩ => ⟨S1x1x1408, .f32⟩
  | .hbm, ⟨19, _⟩ => ⟨S1x1x1408, .f32⟩
  | .hbm, ⟨20, _⟩ => ⟨S128x3, .f32⟩
  | .hbm, ⟨21, _⟩ => ⟨S128, .f32⟩
  | .hbm, ⟨22, _⟩ => ⟨S1408x128, .f32⟩
  | .hbm, ⟨23, _⟩ => ⟨S1408, .f32⟩
  | .hbm, ⟨24, _⟩ => ⟨S1x1408, .f32⟩
  | .hbm, ⟨25, _⟩ => ⟨S1x1408, .f32⟩
  | .hbm, ⟨26, _⟩ => ⟨S1x1024, .f32⟩
  | .hbm, ⟨27, _⟩ => ⟨S4x1024, .f32⟩
  | .local _ .vmem, ⟨0, _⟩ => ⟨S1x1408, .f32⟩
  | .local _ .vmem, ⟨1, _⟩ => ⟨S1x1408, .f32⟩
  | .local _ .vmem, ⟨2, _⟩ => ⟨S512x1408, .f32⟩
  | .local _ .vmem, ⟨3, _⟩ => ⟨S512x1408, .f32⟩
  | .local _ .vmem, ⟨4, _⟩ => ⟨S1x512, .f32⟩
  | .local _ .vmem, ⟨5, _⟩ => ⟨S1x512, .f32⟩
  | .local _ .vmem, ⟨6, _⟩ => ⟨S4x512, .f32⟩
  | .local _ .vmem, ⟨7, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x3 : Shape := ⟨3, ![4, 8192, 3]⟩
abbrev S128x6 : Shape := ⟨2, ![128, 6]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1408x512 : Shape := ⟨2, ![1408, 512]⟩
abbrev S1408 : Shape := ⟨1, ![1408]⟩
abbrev S1024x1408 : Shape := ⟨2, ![1024, 1408]⟩
abbrev S1024 : Shape := ⟨1, ![1024]⟩
abbrev S1x1x1408 : Shape := ⟨3, ![1, 1, 1408]⟩
abbrev S128x3 : Shape := ⟨2, ![128, 3]⟩
abbrev S1408x128 : Shape := ⟨2, ![1408, 128]⟩
abbrev S_ : Shape := ⟨0, ![]⟩
abbrev S4x8192 : Shape := ⟨2, ![4, 8192]⟩
abbrev S4x512 : Shape := ⟨2, ![4, 512]⟩
abbrev S4 : Shape := ⟨1, ![4]⟩
abbrev S4x1 : Shape := ⟨2, ![4, 1]⟩
abbrev S32768x3 : Shape := ⟨2, ![32768, 3]⟩
abbrev S4x3 : Shape := ⟨2, ![4, 3]⟩
abbrev S4x1x3 : Shape := ⟨3, ![4, 1, 3]⟩
abbrev S1 : Shape := ⟨1, ![1]⟩
abbrev S2048 : Shape := ⟨1, ![2048]⟩
abbrev S2048x1 : Shape := ⟨2, ![2048, 1]⟩
abbrev S2048x3 : Shape := ⟨2, ![2048, 3]⟩
abbrev S4x512x3 : Shape := ⟨3, ![4, 512, 3]⟩
abbrev S4x512x8192 : Shape := ⟨3, ![4, 512, 8192]⟩
abbrev S4x512x1 : Shape := ⟨3, ![4, 512, 1]⟩
abbrev S4x1x8192 : Shape := ⟨3, ![4, 1, 8192]⟩
abbrev S4x512x64 : Shape := ⟨3, ![4, 512, 64]⟩
abbrev S4x1x1 : Shape := ⟨3, ![4, 1, 1]⟩
abbrev S131072 : Shape := ⟨1, ![131072]⟩
abbrev S131072x1 : Shape := ⟨2, ![131072, 1]⟩
abbrev S131072x3 : Shape := ⟨2, ![131072, 3]⟩
abbrev S4x512x64x3 : Shape := ⟨4, ![4, 512, 64, 3]⟩
abbrev S4x512x1x3 : Shape := ⟨4, ![4, 512, 1, 3]⟩
abbrev S4x512x64x6 : Shape := ⟨4, ![4, 512, 64, 6]⟩
abbrev S2048x64x6 : Shape := ⟨3, ![2048, 64, 6]⟩
abbrev S6x128 : Shape := ⟨2, ![6, 128]⟩
abbrev S2048x64x128 : Shape := ⟨3, ![2048, 64, 128]⟩
abbrev S1x1x128 : Shape := ⟨3, ![1, 1, 128]⟩
abbrev S128x256 : Shape := ⟨2, ![128, 256]⟩
abbrev S2048x64x256 : Shape := ⟨3, ![2048, 64, 256]⟩
abbrev S1x1x256 : Shape := ⟨3, ![1, 1, 256]⟩
abbrev S2048x256 : Shape := ⟨2, ![2048, 256]⟩
abbrev S2048x1x256 : Shape := ⟨3, ![2048, 1, 256]⟩
abbrev S2048x64x512 : Shape := ⟨3, ![2048, 64, 512]⟩
abbrev S1x1x512 : Shape := ⟨3, ![1, 1, 512]⟩
abbrev S2048x512 : Shape := ⟨2, ![2048, 512]⟩
abbrev S4x512x512 : Shape := ⟨3, ![4, 512, 512]⟩
abbrev S512x1408 : Shape := ⟨2, ![512, 1408]⟩
abbrev S4x512x1408 : Shape := ⟨3, ![4, 512, 1408]⟩
abbrev S3x128 : Shape := ⟨2, ![3, 128]⟩
abbrev S4x512x128 : Shape := ⟨3, ![4, 512, 128]⟩
abbrev S128x1408 : Shape := ⟨2, ![128, 1408]⟩
abbrev S4x1x1408 : Shape := ⟨3, ![4, 1, 1408]⟩
abbrev S4x513x1408 : Shape := ⟨3, ![4, 513, 1408]⟩
abbrev S4x1408 : Shape := ⟨2, ![4, 1408]⟩
abbrev S1408x1024 : Shape := ⟨2, ![1408, 1024]⟩
abbrev S4x1024 : Shape := ⟨2, ![4, 1024]⟩
abbrev S1x1024 : Shape := ⟨2, ![1, 1024]⟩

abbrev nBuf : Space → Nat
  | .hbm => 255
  | .vmem => 0
  | .smem => 0
  | _ => 0

abbrev hbmTy0_0 (i : Nat) : BufTy := match i % 128 with
  | 0 => ⟨S4x8192x3, .f32⟩
  | 1 => ⟨S4x8192x3, .f32⟩
  | 2 => ⟨S128x6, .f32⟩
  | 3 => ⟨S128, .f32⟩
  | 4 => ⟨S128, .f32⟩
  | 5 => ⟨S128, .f32⟩
  | 6 => ⟨S256x128, .f32⟩
  | 7 => ⟨S256, .f32⟩
  | 8 => ⟨S512x512, .f32⟩
  | 9 => ⟨S512, .f32⟩
  | 10 => ⟨S512, .f32⟩
  | 11 => ⟨S512, .f32⟩
  | 12 => ⟨S512x512, .f32⟩
  | 13 => ⟨S512, .f32⟩
  | 14 => ⟨S1408x512, .f32⟩
  | 15 => ⟨S1408, .f32⟩
  | 16 => ⟨S1024x1408, .f32⟩
  | 17 => ⟨S1024, .f32⟩
  | 18 => ⟨S1x1x1408, .f32⟩
  | 19 => ⟨S1x1x1408, .f32⟩
  | 20 => ⟨S128x3, .f32⟩
  | 21 => ⟨S128, .f32⟩
  | 22 => ⟨S1408x128, .f32⟩
  | 23 => ⟨S1408, .f32⟩
  | 24 => ⟨S_, .f32⟩
  | 25 => ⟨S4x8192, .f32⟩
  | 26 => ⟨S_, .i32⟩
  | 27 => ⟨S4x512, .i32⟩
  | 28 => ⟨S_, .i32⟩
  | 29 => ⟨S4, .i32⟩
  | 30 => ⟨S_, .i32⟩
  | 31 => ⟨S_, .i32⟩
  | 32 => ⟨S4x8192x3, .f32⟩
  | 33 => ⟨S_, .i32⟩
  | 34 => ⟨S_, .i32⟩
  | 35 => ⟨S4x8192, .f32⟩
  | 36 => ⟨S4, .i32⟩
  | 37 => ⟨S4x512, .i32⟩
  | 38 => ⟨S_, .i32⟩
  | 39 => ⟨S_, .i1⟩
  | 40 => ⟨S_, .i32⟩
  | 41 => ⟨S_, .i32⟩
  | 42 => ⟨S4x1, .i32⟩
  | 43 => ⟨S4, .i32⟩
  | 44 => ⟨S4x1, .i32⟩
  | 45 => ⟨S_, .i32⟩
  | 46 => ⟨S4x1, .i32⟩
  | 47 => ⟨S4x1, .i32⟩
  | 48 => ⟨S4x1, .i32⟩
  | 49 => ⟨S4, .i32⟩
  | 50 => ⟨S32768x3, .f32⟩
  | 51 => ⟨S_, .i32⟩
  | 52 => ⟨S4, .i32⟩
  | 53 => ⟨S4, .i1⟩
  | 54 => ⟨S_, .i32⟩
  | 55 => ⟨S4, .i32⟩
  | 56 => ⟨S4, .i32⟩
  | 57 => ⟨S4, .i32⟩
  | 58 => ⟨S4x1, .i32⟩
  | 59 => ⟨S4x3, .f32⟩
  | 60 => ⟨S4x1x3, .f32⟩
  | 61 => ⟨S4x8192x3, .f32⟩
  | 62 => ⟨S4x8192x3, .f32⟩
  | 63 => ⟨S4x8192x3, .f32⟩
  | 64 => ⟨S_, .f32⟩
  | 65 => ⟨S4x8192, .f32⟩
  | 66 => ⟨S4x8192, .f32⟩
  | 67 => ⟨S4x8192, .i32⟩
  | 68 => ⟨S_, .f32⟩
  | 69 => ⟨S_, .i32⟩
  | 70 => ⟨S4, .f32⟩
  | 71 => ⟨S4, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1, .i32⟩
  | 79 => ⟨S4x512, .i32⟩
  | 80 => ⟨S_, .i32⟩
  | 81 => ⟨S_, .i32⟩
  | 82 => ⟨S4, .i32⟩
  | 83 => ⟨S4x1, .i32⟩
  | 84 => ⟨S_, .i32⟩
  | 85 => ⟨S4x1, .i32⟩
  | 86 => ⟨S4x1, .i32⟩
  | 87 => ⟨S4x512, .i32⟩
  | 88 => ⟨S4x512, .i32⟩
  | 89 => ⟨S2048, .i32⟩
  | 90 => ⟨S32768x3, .f32⟩
  | 91 => ⟨S_, .i32⟩
  | 92 => ⟨S2048, .i32⟩
  | 93 => ⟨S2048, .i1⟩
  | 94 => ⟨S_, .i32⟩
  | 95 => ⟨S2048, .i32⟩
  | 96 => ⟨S2048, .i32⟩
  | 97 => ⟨S2048, .i32⟩
  | 98 => ⟨S2048x1, .i32⟩
  | 99 => ⟨S2048x3, .f32⟩
  | 100 => ⟨S4x512x3, .f32⟩
  | 101 => ⟨S4x512x8192, .f32⟩
  | 102 => ⟨S_, .f32⟩
  | 103 => ⟨S4x512x8192, .f32⟩
  | 104 => ⟨S4x512x8192, .f32⟩
  | 105 => ⟨S4x512x3, .f32⟩
  | 106 => ⟨S_, .f32⟩
  | 107 => ⟨S4x512, .f32⟩
  | 108 => ⟨S4x512x1, .f32⟩
  | 109 => ⟨S4x512x8192, .f32⟩
  | 110 => ⟨S4x512x8192, .f32⟩
  | 111 => ⟨S4x8192x3, .f32⟩
  | 112 => ⟨S_, .f32⟩
  | 113 => ⟨S4x8192, .f32⟩
  | 114 => ⟨S4x1x8192, .f32⟩
  | 115 => ⟨S4x512x8192, .f32⟩
  | 116 => ⟨S4x512x8192, .f32⟩
  | 117 => ⟨S4x512x8192, .f32⟩
  | 118 => ⟨S4x512x64, .f32⟩
  | 119 => ⟨S4x512x64, .i32⟩
  | 120 => ⟨S4, .i32⟩
  | 121 => ⟨S4x1x1, .i32⟩
  | 122 => ⟨S_, .i32⟩
  | 123 => ⟨S4x1x1, .i32⟩
  | 124 => ⟨S4x1x1, .i32⟩
  | 125 => ⟨S4x512x64, .i32⟩
  | 126 => ⟨S4x512x64, .i32⟩
  | 127 => ⟨S131072, .i32⟩
  | _ => ⟨S4x8192x3, .f32⟩

abbrev hbmTy0_1 (i : Nat) : BufTy := match i % 128 with
  | 0 => ⟨S32768x3, .f32⟩
  | 1 => ⟨S_, .i32⟩
  | 2 => ⟨S131072, .i32⟩
  | 3 => ⟨S131072, .i1⟩
  | 4 => ⟨S_, .i32⟩
  | 5 => ⟨S131072, .i32⟩
  | 6 => ⟨S131072, .i32⟩
  | 7 => ⟨S131072, .i32⟩
  | 8 => ⟨S131072x1, .i32⟩
  | 9 => ⟨S131072x3, .f32⟩
  | 10 => ⟨S4x512x64x3, .f32⟩
  | 11 => ⟨S4, .i32⟩
  | 12 => ⟨S4x1x1, .i32⟩
  | 13 => ⟨S_, .i32⟩
  | 14 => ⟨S4x1x1, .i32⟩
  | 15 => ⟨S4x1x1, .i32⟩
  | 16 => ⟨S4x512x64, .i32⟩
  | 17 => ⟨S4x512x64, .i32⟩
  | 18 => ⟨S131072, .i32⟩
  | 19 => ⟨S32768x3, .f32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x3, .f32⟩
  | 29 => ⟨S4x512x64x3, .f32⟩
  | 30 => ⟨S4x512x1x3, .f32⟩
  | 31 => ⟨S4x512x64x3, .f32⟩
  | 32 => ⟨S4x512x64x3, .f32⟩
  | 33 => ⟨S4x512x64x6, .f32⟩
  | 34 => ⟨S2048x64x6, .f32⟩
  | 35 => ⟨S6x128, .f32⟩
  | 36 => ⟨S2048x64x128, .f32⟩
  | 37 => ⟨S1x1x128, .f32⟩
  | 38 => ⟨S2048x64x128, .f32⟩
  | 39 => ⟨S2048x64x128, .f32⟩
  | 40 => ⟨S_, .f32⟩
  | 41 => ⟨S_, .f32⟩
  | 42 => ⟨S_, .f32⟩
  | 43 => ⟨S2048x64x128, .f32⟩
  | 44 => ⟨S2048x64x128, .f32⟩
  | 45 => ⟨S1x1x128, .f32⟩
  | 46 => ⟨S2048x64x128, .f32⟩
  | 47 => ⟨S2048x64x128, .f32⟩
  | 48 => ⟨S1x1x128, .f32⟩
  | 49 => ⟨S2048x64x128, .f32⟩
  | 50 => ⟨S2048x64x128, .f32⟩
  | 51 => ⟨S_, .f32⟩
  | 52 => ⟨S2048x64x128, .f32⟩
  | 53 => ⟨S2048x64x128, .f32⟩
  | 54 => ⟨S128x256, .f32⟩
  | 55 => ⟨S2048x64x256, .f32⟩
  | 56 => ⟨S1x1x256, .f32⟩
  | 57 => ⟨S2048x64x256, .f32⟩
  | 58 => ⟨S2048x64x256, .f32⟩
  | 59 => ⟨S_, .f32⟩
  | 60 => ⟨S2048x256, .f32⟩
  | 61 => ⟨S2048x1x256, .f32⟩
  | 62 => ⟨S2048x64x256, .f32⟩
  | 63 => ⟨S2048x64x512, .f32⟩
  | 64 => ⟨S512x512, .f32⟩
  | 65 => ⟨S2048x64x512, .f32⟩
  | 66 => ⟨S1x1x512, .f32⟩
  | 67 => ⟨S2048x64x512, .f32⟩
  | 68 => ⟨S2048x64x512, .f32⟩
  | 69 => ⟨S_, .f32⟩
  | 70 => ⟨S_, .f32⟩
  | 71 => ⟨S_, .f32⟩
  | 72 => ⟨S2048x64x512, .f32⟩
  | 73 => ⟨S2048x64x512, .f32⟩
  | 74 => ⟨S1x1x512, .f32⟩
  | 75 => ⟨S2048x64x512, .f32⟩
  | 76 => ⟨S2048x64x512, .f32⟩
  | 77 => ⟨S1x1x512, .f32⟩
  | 78 => ⟨S2048x64x512, .f32⟩
  | 79 => ⟨S2048x64x512, .f32⟩
  | 80 => ⟨S_, .f32⟩
  | 81 => ⟨S2048x64x512, .f32⟩
  | 82 => ⟨S2048x64x512, .f32⟩
  | 83 => ⟨S512x512, .f32⟩
  | 84 => ⟨S2048x64x512, .f32⟩
  | 85 => ⟨S1x1x512, .f32⟩
  | 86 => ⟨S2048x64x512, .f32⟩
  | 87 => ⟨S2048x64x512, .f32⟩
  | 88 => ⟨S_, .f32⟩
  | 89 => ⟨S2048x512, .f32⟩
  | 90 => ⟨S4x512x512, .f32⟩
  | 91 => ⟨S512x1408, .f32⟩
  | 92 => ⟨S4x512x1408, .f32⟩
  | 93 => ⟨S1x1x1408, .f32⟩
  | 94 => ⟨S4x512x1408, .f32⟩
  | 95 => ⟨S4x512x1408, .f32⟩
  | 96 => ⟨S3x128, .f32⟩
  | 97 => ⟨S4x512x128, .f32⟩
  | 98 => ⟨S1x1x128, .f32⟩
  | 99 => ⟨S4x512x128, .f32⟩
  | 100 => ⟨S4x512x128, .f32⟩
  | 101 => ⟨S_, .f32⟩
  | 102 => ⟨S4x512x128, .f32⟩
  | 103 => ⟨S4x512x128, .f32⟩
  | 104 => ⟨S4x512x128, .f32⟩
  | 105 => ⟨S_, .f32⟩
  | 106 => ⟨S4x512x128, .f32⟩
  | 107 => ⟨S4x512x128, .f32⟩
  | 108 => ⟨S4x512x128, .f32⟩
  | 109 => ⟨S4x512x128, .f32⟩
  | 110 => ⟨S128x1408, .f32⟩
  | 111 => ⟨S4x512x1408, .f32⟩
  | 112 => ⟨S1x1x1408, .f32⟩
  | 113 => ⟨S4x512x1408, .f32⟩
  | 114 => ⟨S4x512x1408, .f32⟩
  | 115 => ⟨S4x1x1408, .f32⟩
  | 116 => ⟨S4x1x1408, .f32⟩
  | 117 => ⟨S4x513x1408, .f32⟩
  | 118 => ⟨S4x513x1408, .f32⟩
  | 119 => ⟨S4x513x1408, .f32⟩
  | 120 => ⟨S4x1x1408, .f32⟩
  | 121 => ⟨S4x1408, .f32⟩
  | 122 => ⟨S1408x1024, .f32⟩
  | 123 => ⟨S4x1024, .f32⟩
  | 124 => ⟨S1x1024, .f32⟩
  | 125 => ⟨S4x1024, .f32⟩
  | 126 => ⟨S4x1024, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_c_1 : Ref sig .tc := ⟨.hbm, 30, rfl⟩
abbrev main_c_2 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev main_v3_4 : Ref sig .tc := ⟨.hbm, 36, rfl⟩
abbrev main_v3_5 : Ref sig .tc := ⟨.hbm, 37, rfl⟩
abbrev main_while0c_c_26 : Ref sig .tc := ⟨.hbm, 38, rfl⟩
abbrev main_while0c_v153 : Ref sig .tc := ⟨.hbm, 39, rfl⟩
abbrev main_while0b_c_26 : Ref sig .tc := ⟨.hbm, 40, rfl⟩
abbrev main_while0b_v153 : Ref sig .tc := ⟨.hbm, 41, rfl⟩
abbrev main_while0b_v154 : Ref sig .tc := ⟨.hbm, 42, rfl⟩
abbrev main_while0b_v155 : Ref sig .tc := ⟨.hbm, 43, rfl⟩
abbrev main_while0b_v156 : Ref sig .tc := ⟨.hbm, 44, rfl⟩
abbrev main_while0b_c_27 : Ref sig .tc := ⟨.hbm, 45, rfl⟩
abbrev main_while0b_v157 : Ref sig .tc := ⟨.hbm, 46, rfl⟩
abbrev main_while0b_v158 : Ref sig .tc := ⟨.hbm, 47, rfl⟩
abbrev main_while0b_v159 : Ref sig .tc := ⟨.hbm, 48, rfl⟩
abbrev main_while0b_v160 : Ref sig .tc := ⟨.hbm, 49, rfl⟩
abbrev main_while0b_v161 : Ref sig .tc := ⟨.hbm, 50, rfl⟩
abbrev main_while0b_c_28 : Ref sig .tc := ⟨.hbm, 51, rfl⟩
abbrev main_while0b_v162 : Ref sig .tc := ⟨.hbm, 52, rfl⟩
abbrev main_while0b_v163 : Ref sig .tc := ⟨.hbm, 53, rfl⟩
abbrev main_while0b_c_29 : Ref sig .tc := ⟨.hbm, 54, rfl⟩
abbrev main_while0b_v164 : Ref sig .tc := ⟨.hbm, 55, rfl⟩
abbrev main_while0b_v165 : Ref sig .tc := ⟨.hbm, 56, rfl⟩
abbrev main_while0b_v166 : Ref sig .tc := ⟨.hbm, 57, rfl⟩
abbrev main_while0b_v167 : Ref sig .tc := ⟨.hbm, 58, rfl⟩
abbrev main_while0b_v168 : Ref sig .tc := ⟨.hbm, 59, rfl⟩
abbrev main_while0b_v169 : Ref sig .tc := ⟨.hbm, 60, rfl⟩
abbrev main_while0b_v170 : Ref sig .tc := ⟨.hbm, 61, rfl⟩
abbrev main_while0b_v171 : Ref sig .tc := ⟨.hbm, 62, rfl⟩
abbrev main_while0b_v172 : Ref sig .tc := ⟨.hbm, 63, rfl⟩
abbrev main_while0b_cst_30 : Ref sig .tc := ⟨.hbm, 64, rfl⟩
abbrev main_while0b_v173 : Ref sig .tc := ⟨.hbm, 65, rfl⟩
abbrev main_while0b_v174 : Ref sig .tc := ⟨.hbm, 66, rfl⟩
abbrev main_while0b_call0_v0 : Ref sig .tc := ⟨.hbm, 67, rfl⟩
abbrev main_while0b_call0_cst : Ref sig .tc := ⟨.hbm, 68, rfl⟩
abbrev main_while0b_call0_c : Ref sig .tc := ⟨.hbm, 69, rfl⟩
abbrev main_while0b_call0_v1_0 : Ref sig .tc := ⟨.hbm, 70, rfl⟩
abbrev main_while0b_v175 : Ref sig .tc := ⟨.hbm, 71, rfl⟩
abbrev main_while0b_c_31 : Ref sig .tc := ⟨.hbm, 72, rfl⟩
abbrev main_while0b_v176 : Ref sig .tc := ⟨.hbm, 73, rfl⟩
abbrev main_while0b_c_32 : Ref sig .tc := ⟨.hbm, 74, rfl⟩
abbrev main_while0b_v177 : Ref sig .tc := ⟨.hbm, 75, rfl⟩
abbrev main_while0b_v178 : Ref sig .tc := ⟨.hbm, 76, rfl⟩
abbrev main_while0b_v179 : Ref sig .tc := ⟨.hbm, 77, rfl⟩
abbrev main_while0b_v180 : Ref sig .tc := ⟨.hbm, 78, rfl⟩
abbrev main_while0b_v181 : Ref sig .tc := ⟨.hbm, 79, rfl⟩
abbrev main_while0b_c_33 : Ref sig .tc := ⟨.hbm, 80, rfl⟩
abbrev main_while0b_v182 : Ref sig .tc := ⟨.hbm, 81, rfl⟩
abbrev main_v4 : Ref sig .tc := ⟨.hbm, 82, rfl⟩
abbrev main_v5 : Ref sig .tc := ⟨.hbm, 83, rfl⟩
abbrev main_c_3 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_v11 : Ref sig .tc := ⟨.hbm, 90, rfl⟩
abbrev main_c_4 : Ref sig .tc := ⟨.hbm, 91, rfl⟩
abbrev main_v12 : Ref sig .tc := ⟨.hbm, 92, rfl⟩
abbrev main_v13 : Ref sig .tc := ⟨.hbm, 93, rfl⟩
abbrev main_c_5 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_6 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_7 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_8 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_values : Ref sig .tc := ⟨.hbm, 118, rfl⟩
abbrev main_indices : Ref sig .tc := ⟨.hbm, 119, rfl⟩
abbrev main_v34 : Ref sig .tc := ⟨.hbm, 120, rfl⟩
abbrev main_v35 : Ref sig .tc := ⟨.hbm, 121, rfl⟩
abbrev main_c_9 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_c_10 : Ref sig .tc := ⟨.hbm, 129, rfl⟩
abbrev main_v42 : Ref sig .tc := ⟨.hbm, 130, rfl⟩
abbrev main_v43 : Ref sig .tc := ⟨.hbm, 131, rfl⟩
abbrev main_c_11 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_c_12 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_c_13 : Ref sig .tc := ⟨.hbm, 148, rfl⟩
abbrev main_v58 : Ref sig .tc := ⟨.hbm, 149, rfl⟩
abbrev main_v59 : Ref sig .tc := ⟨.hbm, 150, rfl⟩
abbrev main_c_14 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_cst_15 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_call1_cst : Ref sig .tc := ⟨.hbm, 179, rfl⟩
abbrev main_call1_v0 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_cst_16 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_17 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_call2_cst : Ref sig .tc := ⟨.hbm, 208, rfl⟩
abbrev main_call2_v0 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_cst_18 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_cst_19 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_cst_20 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩

abbrev nD : Nat := 1
abbrev τ : Topo := Topo.v7x

variable {F : FTy → Type} [FloatOps F]

abbrev main_while0_count : Scf.Loop 32 := ⟨0#32, 511#32, 1#32⟩
-- ==== Proof.KernelBlock.lean ====
/-
  What one grid point of the kernel computes from its blocks. The point holds the class token, its position, 512 rows of the
  weights and the bias at those rows; it writes, for each of the 4 clouds, the same 512 entries of the projection.
-/
module

public import proofs.«01_k».proof.Proof.Gen.KernelIdeal.Frame
public import Idealize.ShloMosaic.Lib.MatmulPlain
public import Idealize.ShloMosaic.Lib.ValueLayout
public import Idealize.ShloMosaic.Lib.Pipeline.Value

@[expose] public section

noncomputable section

namespace Cert.Proof

open Idealize.ShloMosaic Idealize.ShloMosaic.ValueIdx
open Cert.KernelIdeal Cert.KernelIdeal.Gen

/-- The body's stored value at cloud `p`, row `j`: `(Σ_k (token k + position k) · weights j k) + bias j`. -/
theorem stored_apply (token position : FVec Ideal S1x1408 .f32) (weights : FVec Ideal S512x1408 .f32)
    (bias : FVec Ideal S1x512 .f32) (p : Fin 4) (j : Fin 512) :
    k0_pay1 token position weights bias (ix2 p j)
      = (∑ k : Fin 1408, (token (ix2 0 k) + position (ix2 0 k)) * weights (ix2 j k)) + bias (ix2 0 j) := by
  unfold k0_pay1
  simp only [shapeCast_self]
  rw [broadcastTo_1b_ab_apply]
  show _ + _ = _ + _
  refine congrArg (· + bias (ix2 0 j)) ?_
  refine (Ideal.matmul_transposedRhs_apply (M := 1) (K := 1408) (N := 512) none _ _ _ 0 j).trans ?_
  show Ideal.ofBits .f32 0x00000000#32 + _ = _
  rw [Ideal.ofBits_zero_f32, zero_add]
  rfl

/-- The block a point leaves is that value: its one store fills the block, and its loads are whole blocks. -/
theorem block_apply (token position : FVec Ideal S1x1408 .f32) (weights : FVec Ideal S512x1408 .f32)
    (bias : FVec Ideal S1x512 .f32) (p : Fin 4) (j : Fin 512) :
    out0_4 (F := Ideal) token position weights bias (ix2 p j)
      = (∑ k : Fin 1408, (token (ix2 0 k) + position (ix2 0 k)) * weights (ix2 j k)) + bias (ix2 0 j) := by
  have hz : (![0, 0] : Fin 2 → Nat) = fun _ => 0 := funext fun a => by fin_cases a <;> rfl
  unfold out0_4
  rw [View.canon_unit_zero hz, View.ld_unit_zero hz, View.ld_unit_zero hz, View.ld_unit_zero hz, View.ld_unit_zero hz]
  exact stored_apply token position weights bias p j

end Cert.Proof

end
-- ==== Proof.Projected.lean ====
/-
  What both programs compute, as one formula: the class token plus its position, times the weights' row `j`, plus the bias
  at `j` — the same for each of the 4 clouds. Elements are extended reals and operations exact.
-/
module

public import Idealize.ShloMosaic.PureOps.Ideal.Laws
public import Idealize.ShloMosaic.Lib.ValueIdxCore

@[expose] public section

noncomputable section

namespace Cert.Proof

open Idealize.ShloMosaic Idealize.ShloMosaic.ValueIdx

/-- Entry `j` of the projected class token: `(Σ_k (token k + position k) · weights j k) + bias j`. -/
def projectedAt (token position : FVec Ideal ⟨3, ![1, 1, 1408]⟩ .f32) (weights : FVec Ideal ⟨2, ![1024, 1408]⟩ .f32)
    (bias : FVec Ideal ⟨1, ![1024]⟩ .f32) (j : Fin 1024) : Ideal .f32 :=
  (∑ k : Fin 1408, (token (ix3 0 0 k) + position (ix3 0 0 k)) * weights (ix2 j k)) + bias (ix1 j)

/-- The result array: that row for each of the 4 clouds. -/
def projected (token position : FVec Ideal ⟨3, ![1, 1, 1408]⟩ .f32) (weights : FVec Ideal ⟨2, ![1024, 1408]⟩ .f32)
    (bias : FVec Ideal ⟨1, ![1024]⟩ .f32) : FVec Ideal ⟨2, ![4, 1024]⟩ .f32 :=
  fun i => projectedAt token position weights bias (i 1)

end Cert.Proof

end
-- ==== Proof.KernelValue.lean ====
/-
  What the kernel's result array holds after the run. Point `t` of the two writes columns `512 t … 512 t + 511`, computed
  from the same rows of the weights and the same entries of the bias; together the two blocks are the array, so it is
  `projected` of the arguments.
-/
module

public import proofs.«01_k».proof.Proof.KernelBlock
public import proofs.«01_k».proof.Proof.Projected
public import proofs.«01_k».proof.Proof.Gen.KernelIdeal.Value
public import Idealize.ShloMosaic.Lib.StableHlo.RunClose

@[expose] public section

noncomputable section

namespace Cert.Proof

open Idealize.ShloMosaic Idealize.ShloMosaic.ValueIdx Idealize.ShloMosaic.TcCoe Idealize.ShloMosaic.StableHlo
open Cert.KernelIdeal Cert.KernelIdeal.Gen

variable (m : (ℓ : Loc nD τ sig) → Buf (Elt Ideal) ℓ) (c : Dev nD)

/-! ## The arrays the points read: three arguments re-laid as rows, and the weights -/

theorem entry_token : V m c main_v0 = (shapeCast S1x1408 (m ((c : Thread nD τ).loc main_arg18)) shapeCasts_S1x1x1408_S1x1408 : FVec Ideal S1x1408 .f32) := by
  unfold V
  after_results
  rfl

theorem entry_position : V m c main_v1 = (shapeCast S1x1408 (m ((c : Thread nD τ).loc main_arg19)) shapeCasts_S1x1x1408_S1x1408 : FVec Ideal S1x1408 .f32) := by
  unfold V
  after_results
  rfl

theorem entry_bias : V m c main_v2 = (shapeCast S1x1024 (m ((c : Thread nD τ).loc main_arg17)) shapeCasts_S1024_S1x1024 : FVec Ideal S1x1024 .f32) := by
  unfold V
  after_results
  rfl

/-- A token argument re-laid as one row, at column `k`. -/
theorem token_row (x : FVec Ideal S1x1x1408 .f32) (k : Fin 1408) :
    shapeCast S1x1408 x shapeCasts_S1x1x1408_S1x1408 (ix2 0 k) = x (ix3 0 0 k) :=
  shapeCast_apply _ _ _ _ (by
    rw [Shape.rowMajor_val_three, Shape.rowMajor_val_two]
    show (0 * 1 + 0) * 1408 + k.val = 0 * 1408 + k.val
    omega)

/-! ## The blocks -/

/-- Column `512 t + j` of the result. -/
def column (t : Fin cfg0.N) (j : Fin 512) : Fin 1024 :=
  ⟨t.val * 512 + j.val, by have h : t.val < 2 := t.isLt; have := j.isLt; omega⟩

theorem index0 (t : Fin cfg0.N) : win0_0.index t 0 = 0 ∧ win0_0.index t 1 = 0 := by
  rcases fin_N0 t with rfl | rfl <;> decide +kernel
theorem index1 (t : Fin cfg0.N) : win0_1.index t 0 = 0 ∧ win0_1.index t 1 = 0 := by
  rcases fin_N0 t with rfl | rfl <;> decide +kernel
theorem index2 (t : Fin cfg0.N) : win0_2.index t 0 = t.val ∧ win0_2.index t 1 = 0 := by
  rcases fin_N0 t with rfl | rfl <;> decide +kernel
theorem index3 (t : Fin cfg0.N) : win0_3.index t 0 = 0 ∧ win0_3.index t 1 = t.val := by
  rcases fin_N0 t with rfl | rfl <;> decide +kernel
theorem index4 (t : Fin cfg0.N) : win0_4.index t 0 = 0 ∧ win0_4.index t 1 = t.val := by
  rcases fin_N0 t with rfl | rfl <;> decide +kernel

/-- Every point reads the whole class token, -/
theorem token_block (t : Fin cfg0.N) (k : Fin 1408) :
    (iblk m c 0 t : FVec Ideal S1x1408 .f32) (ix2 0 k) = (m ((c : Thread nD τ).loc main_arg18) : FVec Ideal S1x1x1408 .f32) (ix3 0 0 k) := by
  refine Eq.trans ?_ ((congrFun (entry_token m c) (ix2 (0 : Fin 1) k)).trans (token_row _ k))
  show V m c main_v0 ((win0_0.rect t).emb (ix2 (0 : Fin 1) k)) = V m c main_v0 (ix2 (0 : Fin 1) k)
  refine congrArg (V m c main_v0) (funext fun a => Fin.ext ?_)
  match a with
  | ⟨0, _⟩ => exact win0_0.rect_emb_val_of_index_zero t 0 (index0 t).1 _
  | ⟨1, _⟩ => exact win0_0.rect_emb_val_of_index_zero t 1 (index0 t).2 _

/-- and its whole position; -/
theorem position_block (t : Fin cfg0.N) (k : Fin 1408) :
    (iblk m c 1 t : FVec Ideal S1x1408 .f32) (ix2 0 k) = (m ((c : Thread nD τ).loc main_arg19) : FVec Ideal S1x1x1408 .f32) (ix3 0 0 k) := by
  refine Eq.trans ?_ ((congrFun (entry_position m c) (ix2 (0 : Fin 1) k)).trans (token_row _ k))
  show V m c main_v1 ((win0_1.rect t).emb (ix2 (0 : Fin 1) k)) = V m c main_v1 (ix2 (0 : Fin 1) k)
  refine congrArg (V m c main_v1) (funext fun a => Fin.ext ?_)
  match a with
  | ⟨0, _⟩ => exact win0_1.rect_emb_val_of_index_zero t 0 (index1 t).1 _
  | ⟨1, _⟩ => exact win0_1.rect_emb_val_of_index_zero t 1 (index1 t).2 _

/-- point `t` reads rows `512 t …` of the weights, -/
theorem weights_block (t : Fin cfg0.N) (j : Fin 512) (k : Fin 1408) :
    (iblk m c 2 t : FVec Ideal S512x1408 .f32) (ix2 j k)
      = (m ((c : Thread nD τ).loc main_arg16) : FVec Ideal S1024x1408 .f32) (ix2 (column t j) k) := by
  refine Eq.trans ?_ (congrFun (V_main_arg16 m c) (ix2 (column t j) k))
  show V m c main_arg16 ((win0_2.rect t).emb (ix2 j k)) = V m c main_arg16 (ix2 (column t j) k)
  refine congrArg (V m c main_arg16) (funext fun a => Fin.ext ?_)
  match a with
  | ⟨0, _⟩ => exact (win0_2.rect_emb_val t _ 0).trans (by rw [(index2 t).1]; rfl)
  | ⟨1, _⟩ => exact win0_2.rect_emb_val_of_index_zero t 1 (index2 t).2 _

/-- and the bias at those rows. -/
theorem bias_block (t : Fin cfg0.N) (j : Fin 512) :
    (iblk m c 3 t : FVec Ideal S1x512 .f32) (ix2 0 j)
      = (m ((c : Thread nD τ).loc main_arg17) : FVec Ideal S1024 .f32) (ix1 (column t j)) := by
  refine Eq.trans ?_ ((congrFun (entry_bias m c) (ix2 (0 : Fin 1) (column t j))).trans
    (shapeCast_a_1a_apply (a := 1024) _ shapeCasts_S1024_S1x1024 0 (column t j)))
  show V m c main_v2 ((win0_3.rect t).emb (ix2 (0 : Fin 1) j)) = V m c main_v2 (ix2 (0 : Fin 1) (column t j))
  refine congrArg (V m c main_v2) (funext fun a => Fin.ext ?_)
  match a with
  | ⟨0, _⟩ => exact win0_3.rect_emb_val_of_index_zero t 0 (index3 t).1 _
  | ⟨1, _⟩ => exact (win0_3.rect_emb_val t _ 1).trans (by rw [(index3 t).2]; rfl)

/-! ## The array -/

/-- `projected` of the kernel's arguments. -/
abbrev result : FVec Ideal S4x1024 .f32 :=
  projected (m ((c : Thread nD τ).loc main_arg18)) (m ((c : Thread nD τ).loc main_arg19))
    (m ((c : Thread nD τ).loc main_arg16)) (m ((c : Thread nD τ).loc main_arg17))

/-- What point `t` writes back is its block of `result`. -/
theorem written_eq (t : Fin cfg0.N) :
    (dats m 0 c).flushed 4 t = ((cfg0.win 4).blk t).view.read (Elt Ideal) (result m c) := by
  rw [Value.flushed4]
  funext y
  obtain ⟨p, j, rfl⟩ : ∃ (p : Fin 4) (j : Fin 512), y = ix2 p j := ⟨y 0, y 1, eq_ix2 y⟩
  have hcol : (win0_4.rect t).emb (ix2 p j) 1 = column t j :=
    Fin.ext ((win0_4.rect_emb_val t (ix2 p j) 1).trans (by rw [(index4 t).2]; rfl))
  show out0_4 (F := Ideal) (iblk m c 0 t) (iblk m c 1 t) (iblk m c 2 t) (iblk m c 3 t) (ix2 p j)
    = projectedAt _ _ _ _ ((win0_4.rect t).emb (ix2 p j) 1)
  rw [hcol, block_apply, bias_block]
  unfold projectedAt
  refine congrArg (· + _) (Finset.sum_congr rfl fun k _ => ?_)
  rw [token_block, position_block, weights_block]

/-- An index lies in point `t`'s block when its column does. -/
theorem mem_written (t : Fin cfg0.N) (i : S4x1024.Idx) (h : (i 1 : ℕ) / 512 = t.val) :
    i ∈ ((cfg0.win 4).blk t).view.set := by
  show i ∈ ((View.whole main_v3).slice (win0_4.rect t)).set
  rw [View.set_slice_whole, Rect.mem_set_unit]
  have h0 : (i 0 : ℕ) < 4 := (i 0).isLt
  intro a
  match a with
  | ⟨0, _⟩ =>
    show win0_4.index t 0 * 4 ≤ (i 0 : ℕ) ∧ (i 0 : ℕ) < win0_4.index t 0 * 4 + 4
    rw [(index4 t).1]; omega
  | ⟨1, _⟩ =>
    show win0_4.index t 1 * 512 ≤ (i 1 : ℕ) ∧ (i 1 : ℕ) < win0_4.index t 1 * 512 + 512
    rw [(index4 t).2]; omega

/-- Every index lies in a block that is written back. -/
theorem covered (i : S4x1024.Idx) : ∃ t : Fin cfg0.N, (cfg0.win 4).flush t = true ∧ i ∈ ((cfg0.win 4).blk t).view.set := by
  have h1 : (i 1 : ℕ) < 1024 := (i 1).isLt
  have ht : (i 1 : ℕ) / 512 < cfg0.N := by show _ < 2; omega
  exact ⟨⟨(i 1 : ℕ) / 512, ht⟩, flush0_4 _, mem_written _ i rfl⟩

/-- So the array ends at `result`. -/
theorem kernel_value : (dats m 0 c).arrAt 4 cfg0.N = result m c :=
  (dats m 0 c).arrAt_eq_of_cover 4 (result m c) (fun t _ => written_eq m c t) covered

end Cert.Proof

end
-- ==== Proof.Front.lean ====
/-
  Programs that begin with host operations of which only two things matter: that they touch tensor values of the
  TensorCore alone, and that they leave the buffers at the places of a given list as they were (a buffer's place is its index among the buffers of
  its space: the 24 arguments are at places 0 to 23). `Front keep Q p` says that `p` is such a
  stretch of operations followed by a program that satisfies `Q`; the operations themselves stay unnamed. The reference
  computes 513 tokens and returns a projection of the first, so almost all its operations are passed over in this way.
-/
module

public import Idealize.ShloMosaic.Lib.StableHlo.RunLoop

@[expose] public section

namespace Cert.Proof

open Idealize.ShloMosaic Idealize.ShloMosaic.StableHlo Idealize.SL.Sem

variable {nD : Nat} {τ : Topo} {sig : RefSig} {Val : EltTy → Type} {Λ : Labels}

/-- A host operation that touches TensorCore tensor values only, allocates nothing, and writes no buffer whose place is in
    `keep`. -/
structure Spares (keep : List ℕ) (op : HloOp τ sig Val) : Prop where
  /-- Everything it touches is a TensorCore reference. -/
  sub : op.bufs ⊆ tcRefs τ sig
  /-- It leaves no buffer at contents of its own choosing. -/
  fresh : op.fresh = ∅
  /-- It writes no buffer at a listed place. -/
  kept : ∀ r : Ref sig .tc, r.idx.val ∈ keep → Proc.devRef (τ := τ) .tc r ∉ op.writes

/-- An operation with the one result `y` spares every list that `y`'s place is not in. -/
theorem Spares.of_result {keep : List ℕ} {op : HloOp τ sig Val} {y : Ref sig .tc}
    (hw : op.writes = {Proc.devRef (τ := τ) .tc y}) (hf : op.fresh = ∅) (hs : op.bufs ⊆ tcRefs τ sig)
    (hy : y.idx.val ∉ keep) : Spares keep op :=
  ⟨hs, hf, fun r hr hm => devRef_ne_of_ne (fun e : r = y => hy (e ▸ hr)) (Finset.mem_singleton.mp (hw ▸ hm))⟩

/-- Sparing a list is sparing each part of it. -/
theorem Spares.mono {keep keep' : List ℕ} {op : HloOp τ sig Val} (h : Spares keep op)
    (hk : ∀ i ∈ keep', i ∈ keep) : Spares keep' op :=
  ⟨h.sub, h.fresh, fun r hr => h.kept r (hk _ hr)⟩

/-- Operations that spare `keep` leave the buffers at its places as they were. -/
theorem after_kept {keep : List ℕ} {ops : List (HloOp τ sig Val)} (h : ∀ op ∈ ops, Spares keep op)
    {r : Ref sig .tc} (hr : r.idx.val ∈ keep) (V : Valuation τ sig Val) :
    after ops V (Proc.devRef .tc r) = V (Proc.devRef .tc r) :=
  after_of_forall_not_mem ops V fun op hop => (h op hop).kept r hr

/-- `p` is a stretch of operations that spare `keep`, then a program that satisfies `Q`. -/
def Front (keep : List ℕ) (Q : Prog (TpuEff nD τ sig Val Λ .tc) PUnit → Prop)
    (p : Prog (TpuEff nD τ sig Val Λ .tc) PUnit) : Prop :=
  ∃ (ops : List (HloOp τ sig Val)) (k : Prog (TpuEff nD τ sig Val Λ .tc) PUnit),
    p = (seq ops >>= fun _ => k) ∧ (∀ op ∈ ops, Spares keep op) ∧ Q k

variable {keep : List ℕ} {Q : Prog (TpuEff nD τ sig Val Λ .tc) PUnit → Prop}

/-- The empty stretch. -/
theorem Front.here {p : Prog (TpuEff nD τ sig Val Λ .tc) PUnit} (h : Q p) : Front keep Q p :=
  ⟨[], p, by simp only [seq, pure_bind], fun _ h => (List.not_mem_nil h).elim, h⟩

/-- One operation more at the front. -/
theorem Front.step {op : HloOp τ sig Val} {p : Prog (TpuEff nD τ sig Val Λ .tc) PUnit}
    (hop : Spares keep op) (h : Front keep Q p) :
    Front keep Q ((hlo rfl op fun _ => .ret (⟨⟩ : PUnit)) >>= fun _ => p) := by
  obtain ⟨ops, k, e, hs, hk⟩ := h
  refine ⟨op :: ops, k, ?_, ?_, hk⟩
  · rw [e]; simp only [seq, bind_assoc]
  · intro o ho
    rcases List.mem_cons.mp ho with rfl | ho
    · exact hop
    · exact hs o ho

/-- A constant at the front. -/
theorem Front.nullary {y : Ref sig .tc} {v : y.ty.Contents Val} {hy}
    {p : Prog (TpuEff nD τ sig Val Λ .tc) PUnit} (h : y.idx.val ∉ keep) (hp : Front keep Q p) :
    Front keep Q ((hlo rfl (StableHlo.nullary y v hy) fun _ => .ret (⟨⟩ : PUnit)) >>= fun _ => p) :=
  Front.step (Spares.of_result (nullary_writes ..) rfl (nullary_bufs_sub ..) h) hp

/-- An operation of one operand at the front. -/
theorem Front.unary {x y : Ref sig .tc} {f : x.ty.Contents Val → y.ty.Contents Val} {hx hy}
    {p : Prog (TpuEff nD τ sig Val Λ .tc) PUnit} (h : y.idx.val ∉ keep) (hp : Front keep Q p) :
    Front keep Q ((hlo rfl (StableHlo.unary x y f hx hy) fun _ => .ret (⟨⟩ : PUnit)) >>= fun _ => p) :=
  Front.step (Spares.of_result (unary_writes ..) rfl (unary_bufs_sub ..) h) hp

/-- A reshape at the front. -/
theorem Front.reshape {x y : Ref sig .tc} {he hn hx hy}
    {p : Prog (TpuEff nD τ sig Val Λ .tc) PUnit} (h : y.idx.val ∉ keep) (hp : Front keep Q p) :
    Front keep Q ((hlo rfl (StableHlo.reshape x y he hn hx hy) fun _ => .ret (⟨⟩ : PUnit)) >>= fun _ => p) :=
  Front.step (Spares.of_result (reshape_writes ..) rfl (reshape_bufs_sub ..) h) hp

/-- An operation of two operands at the front. -/
theorem Front.binary {a b y : Ref sig .tc} {f : a.ty.Contents Val → b.ty.Contents Val → y.ty.Contents Val} {ha hb hy}
    {p : Prog (TpuEff nD τ sig Val Λ .tc) PUnit} (h : y.idx.val ∉ keep) (hp : Front keep Q p) :
    Front keep Q ((hlo rfl (StableHlo.binary a b y f ha hb hy) fun _ => .ret (⟨⟩ : PUnit)) >>= fun _ => p) :=
  Front.step (Spares.of_result (binary_writes ..) rfl (binary_bufs_sub ..) h) hp

/-- An operation of three operands at the front. -/
theorem Front.ternary {c a b y : Ref sig .tc} {f : c.ty.Contents Val → a.ty.Contents Val → b.ty.Contents Val → y.ty.Contents Val} {hc ha hb hy}
    {p : Prog (TpuEff nD τ sig Val Λ .tc) PUnit} (h : y.idx.val ∉ keep) (hp : Front keep Q p) :
    Front keep Q ((hlo rfl (StableHlo.ternary c a b y f hc ha hb hy) fun _ => .ret (⟨⟩ : PUnit)) >>= fun _ => p) :=
  Front.step (Spares.of_result (ternary_writes ..) rfl (ternary_bufs_sub ..) h) hp

/-- An operation of four operands at the front. -/
theorem Front.quaternary {a b c e y : Ref sig .tc} {f : a.ty.Contents Val → b.ty.Contents Val → c.ty.Contents Val → e.ty.Contents Val → y.ty.Contents Val} {ha hb hc he hy}
    {p : Prog (TpuEff nD τ sig Val Λ .tc) PUnit} (h : y.idx.val ∉ keep) (hp : Front keep Q p) :
    Front keep Q ((hlo rfl (StableHlo.quaternary a b c e y f ha hb hc he hy) fun _ => .ret (⟨⟩ : PUnit)) >>= fun _ => p) :=
  Front.step (Spares.of_result (quaternary_writes ..) rfl (quaternary_bufs_sub ..) h) hp

/-- A called function's stretch at the front. -/
theorem Front.call {q p : Prog (TpuEff nD τ sig Val Λ .tc) PUnit}
    (hq : Front keep (· = pure ⟨⟩) q) (h : Front keep Q p) : Front keep Q (q >>= fun _ => p) := by
  obtain ⟨ops, k, e, hs, hk⟩ := h
  obtain ⟨ops', k', e', hs', rfl⟩ := hq
  refine ⟨ops' ++ ops, k, ?_, ?_, hk⟩
  · rw [e, e', seq_append]; simp only [bind_assoc, pure_bind]
  · intro o ho
    rcases List.mem_append.mp ho with ho | ho
    · exact hs' o ho
    · exact hs o ho

/-- A program may be read as followed by nothing. -/
theorem Front.last {p : Prog (TpuEff nD τ sig Val Λ .tc) PUnit} (h : Front keep Q (p >>= fun _ => pure ⟨⟩)) :
    Front keep Q p := by
  rwa [show (p >>= fun _ => pure ⟨⟩) = p from bind_pure p] at h

/-- `p` is the stretch `ops`, then a program that satisfies `Q`. -/
def Named (ops : List (HloOp τ sig Val)) (Q : Prog (TpuEff nD τ sig Val Λ .tc) PUnit → Prop)
    (p : Prog (TpuEff nD τ sig Val Λ .tc) PUnit) : Prop :=
  ∃ k : Prog (TpuEff nD τ sig Val Λ .tc) PUnit, p = (seq ops >>= fun _ => k) ∧ Q k

/-- The empty named stretch. -/
theorem Named.nil {p : Prog (TpuEff nD τ sig Val Λ .tc) PUnit} (h : Q p) : Named ([] : List (HloOp τ sig Val)) Q p :=
  ⟨p, by simp only [seq, pure_bind], h⟩

/-- One named operation more at the front. -/
theorem Named.cons {op : HloOp τ sig Val} {ops : List (HloOp τ sig Val)} {p : Prog (TpuEff nD τ sig Val Λ .tc) PUnit}
    (h : Named ops Q p) : Named (op :: ops) Q ((hlo rfl op fun _ => .ret (⟨⟩ : PUnit)) >>= fun _ => p) := by
  obtain ⟨k, e, hk⟩ := h
  exact ⟨k, by rw [e]; simp only [seq, bind_assoc], hk⟩

/-- A list of stretches of sparing operations is one that the run of a loop takes. -/
theorem plain_cons {F : FTy → Type} {ops : List (HloOp τ sig (Elt F))} {rest : List (List (HloOp τ sig (Elt F)))}
    {keep : List ℕ} (h : ∀ op ∈ ops, Spares keep op) (hr : Plain rest) : Plain (ops :: rest) := by
  intro o ho
  rcases List.mem_cons.mp ho with rfl | ho
  · exact ⟨fun op hop => (h op hop).sub, fun op hop => (h op hop).fresh⟩
  · exact hr o ho

end Cert.Proof
-- ==== Proof.RefParts.lean ====
/-
  The reference's program as stretches of host operations round its one loop. Only the operations the result depends on are
  named: the loop counter's start (`entryOps`), its step (`turnOps`), the loop's test (`testOps`), and the operations that
  put the class token before the others, cut the first token off again and project it (`tokenOps`, `projectOps`). All
  the others are only shown to leave the arguments alone (`Front`), and the loop counter too inside the loop's body.
-/
module

public import proofs.«01_k».proof.Proof.Front
public import proofs.«01_k».proof.Proof.Gen.ReferenceIdeal

@[expose] public section

noncomputable section

namespace Cert.Proof

open Idealize.ShloMosaic Idealize.ShloMosaic.StableHlo Idealize.SL.Sem
open Cert.ReferenceIdeal Cert.ReferenceIdeal.Gen

variable {F : FTy → Type} [FloatOps F]

/-- The places of the arguments' buffers: 0 to 23. -/
abbrev argPlaces : List ℕ := List.range 24

/-- Those places and the loop counter's, 33. -/
abbrev loopPlaces : List ℕ := 33 :: List.range 24

/-- The last operations before the loop: the counter starts at 0, and the values the loop carries are copied in. -/
def entryOps : List (HloOp τ sig (Elt F)) :=
  [ StableHlo.nullary main_c_1 (constantI S_ 32 1#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v2 main_v3_4 id,
    StableHlo.unary main_v1 main_v3_5 id ]

/-- The loop's test: is the counter below 511? -/
def testOps : List (HloOp τ sig (Elt F)) :=
  [ StableHlo.nullary main_while0c_c_26 (constantI S_ 32 511#32),
    StableHlo.binary main_v3_1 main_while0c_c_26 main_while0c_v153 (cmpi .slt : (⟨S_, .i32⟩ : BufTy).Contents (Elt F) → (⟨S_, .i32⟩ : BufTy).Contents (Elt F) → (⟨S_, .i1⟩ : BufTy).Contents (Elt F)) ]

/-- The last operations of the loop's body: the counter goes up by 1, and the carried values are copied back. -/
def turnOps : List (HloOp τ sig (Elt F)) :=
  [ StableHlo.nullary main_while0b_c_33 (constantI S_ 32 1#32),
    StableHlo.binary main_v3_1 main_while0b_c_33 main_while0b_v182 (addi : (⟨S_, .i32⟩ : BufTy).Contents (Elt F) → (⟨S_, .i32⟩ : BufTy).Contents (Elt F) → (⟨S_, .i32⟩ : BufTy).Contents (Elt F)),
    StableHlo.unary main_while0b_v182 main_v3_1 id,
    StableHlo.unary main_while0b_v153 main_v3_2 id,
    StableHlo.unary main_while0b_v174 main_v3_3 id,
    StableHlo.unary main_while0b_v175 main_v3_4 id,
    StableHlo.unary main_while0b_v181 main_v3_5 id ]

/-- The class token and its position, copied to the 4 clouds and put before the 512 group tokens and their positions
    (of which nothing is used here); tokens plus positions; the first token of each cloud; the weights transposed. -/
def tokenOps : List (HloOp τ sig (Elt F)) :=
  [ StableHlo.unary main_arg18 main_v141 (broadcastInDim S4x1x1408 ![0, 1, 2] bcast_S1x1x1408_S4x1x1408_0_1_2 : (⟨S1x1x1408, .f32⟩ : BufTy).Contents (Elt F) → (⟨S4x1x1408, .f32⟩ : BufTy).Contents (Elt F)),
    StableHlo.unary main_arg19 main_v142 (broadcastInDim S4x1x1408 ![0, 1, 2] bcast_S1x1x1408_S4x1x1408_0_1_2 : (⟨S1x1x1408, .f32⟩ : BufTy).Contents (Elt F) → (⟨S4x1x1408, .f32⟩ : BufTy).Contents (Elt F)),
    StableHlo.binary main_v141 main_v123 main_v143 ((fun a b => concatenate S4x513x1408 1 [⟨S4x1x1408, a⟩, ⟨S4x512x1408, b⟩] concatenates_S4x1x1408_S4x512x1408_S4x513x1408_d1) : (⟨S4x1x1408, .f32⟩ : BufTy).Contents (Elt F) → (⟨S4x512x1408, .f32⟩ : BufTy).Contents (Elt F) → (⟨S4x513x1408, .f32⟩ : BufTy).Contents (Elt F)),
    StableHlo.binary main_v142 main_v140 main_v144 ((fun a b => concatenate S4x513x1408 1 [⟨S4x1x1408, a⟩, ⟨S4x512x1408, b⟩] concatenates_S4x1x1408_S4x512x1408_S4x513x1408_d1) : (⟨S4x1x1408, .f32⟩ : BufTy).Contents (Elt F) → (⟨S4x512x1408, .f32⟩ : BufTy).Contents (Elt F) → (⟨S4x513x1408, .f32⟩ : BufTy).Contents (Elt F)),
    StableHlo.binary main_v143 main_v144 main_v145 (addf : (⟨S4x513x1408, .f32⟩ : BufTy).Contents (Elt F) → (⟨S4x513x1408, .f32⟩ : BufTy).Contents (Elt F) → (⟨S4x513x1408, .f32⟩ : BufTy).Contents (Elt F)),
    StableHlo.unary main_v145 main_v146 ((extractStridedSlice S4x1x1408 ![0, 0, 0] · slices_S4x513x1408_S4x1x1408_0_0_0) : (⟨S4x513x1408, .f32⟩ : BufTy).Contents (Elt F) → (⟨S4x1x1408, .f32⟩ : BufTy).Contents (Elt F)),
    StableHlo.reshape main_v146 main_v147 (rfl : (.f32 : EltTy) = .f32) shapeCasts_S4x1x1408_S4x1408,
    StableHlo.unary main_arg16 main_v148 ((transpose S1408x1024 [1, 0] · transposes_S1024x1408_S1408x1024_1_0) : (⟨S1024x1408, .f32⟩ : BufTy).Contents (Elt F) → (⟨S1408x1024, .f32⟩ : BufTy).Contents (Elt F)) ]

/-- The first tokens times the weights, plus the bias. -/
def projectOps : List (HloOp τ sig (Elt F)) :=
  [ StableHlo.binary main_v147 main_v148 main_v149 ((fun l r => Host.dotGeneral dot_S4x1408_S1408x1024_S4x1024_1_0_0_1_n_n none l r) : (⟨S4x1408, .f32⟩ : BufTy).Contents (Elt F) → (⟨S1408x1024, .f32⟩ : BufTy).Contents (Elt F) → (⟨S4x1024, .f32⟩ : BufTy).Contents (Elt F)),
    StableHlo.unary main_arg17 main_v150 (broadcastInDim S1x1024 ![1] bcast_S1024_S1x1024_1 : (⟨S1024, .f32⟩ : BufTy).Contents (Elt F) → (⟨S1x1024, .f32⟩ : BufTy).Contents (Elt F)),
    StableHlo.unary main_v150 main_v151 (broadcastInDim S4x1024 ![0, 1] bcast_S1x1024_S4x1024_0_1 : (⟨S1x1024, .f32⟩ : BufTy).Contents (Elt F) → (⟨S4x1024, .f32⟩ : BufTy).Contents (Elt F)),
    StableHlo.binary main_v149 main_v151 main_v152 (addf : (⟨S4x1024, .f32⟩ : BufTy).Contents (Elt F) → (⟨S4x1024, .f32⟩ : BufTy).Contents (Elt F) → (⟨S4x1024, .f32⟩ : BufTy).Contents (Elt F)) ]

/-- The loop's body: operations that spare the arguments and the counter, then `turnOps`. -/
theorem body_front : Front loopPlaces (· = seq turnOps) (main_while0_body (F := F)) := by
  unfold main_while0_body
  iterate 27 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.call ?_ ?_
  · unfold fn_argmax.body
    iterate 5 first
      | with_reducible refine Front.unary (by decide +kernel) ?_
      | with_reducible refine Front.binary (by decide +kernel) ?_
      | with_reducible refine Front.nullary (by decide +kernel) ?_
      | with_reducible refine Front.reshape (by decide +kernel) ?_
      | with_reducible refine Front.ternary (by decide +kernel) ?_
      | with_reducible refine Front.quaternary (by decide +kernel) ?_
    exact Front.here rfl
  iterate 8 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  exact Front.here rfl

/-- The program up to the loop, and the first operations after it. -/
theorem part0_front (c : Dev nD) :
    Front argPlaces (Named entryOps fun p => ∃ p', p = (HostLoop.enter 0 >>= fun _ => p') ∧ Front argPlaces (· = pure ⟨⟩) p')
      (main_part0 (F := F) c) := by
  unfold main_part0
  iterate 6 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.here ?_
  unfold entryOps
  iterate 8 refine Named.cons ?_
  refine Named.nil ⟨_, rfl, ?_⟩
  iterate 44 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.last ?_
  iterate 1 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  exact Front.here rfl

/-- The next 60 operations: sampling, neighbours and the encoder's first half. -/
theorem part1_front (c : Dev nD) : Front argPlaces (· = pure ⟨⟩) (main_part1 (F := F) c) := by
  unfold main_part1
  iterate 52 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.call ?_ ?_
  · unfold fn_relu.body
    iterate 3 first
      | with_reducible refine Front.unary (by decide +kernel) ?_
      | with_reducible refine Front.binary (by decide +kernel) ?_
      | with_reducible refine Front.nullary (by decide +kernel) ?_
      | with_reducible refine Front.reshape (by decide +kernel) ?_
      | with_reducible refine Front.ternary (by decide +kernel) ?_
      | with_reducible refine Front.quaternary (by decide +kernel) ?_
    exact Front.here rfl
  iterate 6 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.last ?_
  iterate 1 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  exact Front.here rfl

/-- The encoder's second half and the position embedding, then `tokenOps`. -/
theorem part2_front (c : Dev nD) : Front argPlaces (· = seq tokenOps) (main_part2 (F := F) c) := by
  unfold main_part2
  iterate 19 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  refine Front.call ?_ ?_
  · unfold fn_relu_0.body
    iterate 3 first
      | with_reducible refine Front.unary (by decide +kernel) ?_
      | with_reducible refine Front.binary (by decide +kernel) ?_
      | with_reducible refine Front.nullary (by decide +kernel) ?_
      | with_reducible refine Front.reshape (by decide +kernel) ?_
      | with_reducible refine Front.ternary (by decide +kernel) ?_
      | with_reducible refine Front.quaternary (by decide +kernel) ?_
    exact Front.here rfl
  iterate 32 first
    | with_reducible refine Front.unary (by decide +kernel) ?_
    | with_reducible refine Front.binary (by decide +kernel) ?_
    | with_reducible refine Front.nullary (by decide +kernel) ?_
    | with_reducible refine Front.reshape (by decide +kernel) ?_
    | with_reducible refine Front.ternary (by decide +kernel) ?_
    | with_reducible refine Front.quaternary (by decide +kernel) ?_
  exact Front.here rfl

/-- The last operations are `projectOps`. -/
theorem part3_eq (c : Dev nD) : main_part3 (F := F) c = seq projectOps := rfl

end Cert.Proof

end
-- ==== Proof.RefRun.lean ====
/-
  The run of the reference. It is stretches of host operations round one loop whose counter goes from 0 to 511: the
  library's rule for such a program asks only that the loop's test reads `k < 511` before trip `k`. From it: the
  reference ends, its 24 arguments are unchanged, and its result is what the last twelve operations (`tokenOps`,
  `projectOps`) make of buffers that hold the arguments unchanged.
-/
module

public import proofs.«01_k».proof.Proof.RefParts
public import Idealize.ShloMosaic.Lib.Scf.ExitTest

@[expose] public section

noncomputable section

namespace Cert.Proof

open Idealize.ShloMosaic Idealize.ShloMosaic.StableHlo
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! ## The named stretches spare the arguments -/

theorem entryOps_spares : ∀ op ∈ entryOps (F := F), Spares argPlaces op := by
  unfold entryOps
  simp only [List.forall_mem_cons, List.not_mem_nil, false_imp_iff, implies_true, and_true]
  exact ⟨Spares.of_result (nullary_writes ..) rfl (nullary_bufs_sub ..) (by decide +kernel),
    Spares.of_result (nullary_writes ..) rfl (nullary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel)⟩

theorem turnOps_spares : ∀ op ∈ turnOps (F := F), Spares argPlaces op := by
  unfold turnOps
  simp only [List.forall_mem_cons, List.not_mem_nil, false_imp_iff, implies_true, and_true]
  exact ⟨Spares.of_result (nullary_writes ..) rfl (nullary_bufs_sub ..) (by decide +kernel),
    Spares.of_result (binary_writes ..) rfl (binary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel),
    Spares.of_result (unary_writes ..) rfl (unary_bufs_sub ..) (by decide +kernel)⟩

theorem testOps_spares : ∀ op ∈ testOps (F := F), Spares loopPlaces op := by
  unfold testOps
  simp only [List.forall_mem_cons, List.not_mem_nil, false_imp_iff, implies_true, and_true]
  exact ⟨Spares.of_result (nullary_writes ..) rfl (nullary_bufs_sub ..) (by decide +kernel),
    Spares.of_result (binary_writes ..) rfl (binary_bufs_sub ..) (by decide +kernel)⟩

theorem tokenOps_spares : ∀ op ∈ tokenOps (F := F), Spares argPlaces op := by
  unfold tokenOps
  simp only [List.forall_mem_cons, List.not_mem_nil, false_imp_iff, implies_true, and_true]
  exact ⟨Spares.of_result (unary_writes ..) rfl (unary_bufs_sub ..) (by decide +kernel),
    Spares.of_result (unary_writes ..) rfl (unary_bufs_sub ..) (by decide +kernel),
    Spares.of_result (binary_writes ..) rfl (binary_bufs_sub ..) (by decide +kernel),
    Spares.of_result (binary_writes ..) rfl (binary_bufs_sub ..) (by decide +kernel),
    Spares.of_result (binary_writes ..) rfl (binary_bufs_sub ..) (by decide +kernel),
    Spares.of_result (unary_writes ..) rfl (unary_bufs_sub ..) (by decide +kernel),
    Spares.of_result (reshape_writes ..) rfl (reshape_bufs_sub ..) (by decide +kernel),
    Spares.of_result (unary_writes ..) rfl (unary_bufs_sub ..) (by decide +kernel)⟩

theorem projectOps_spares : ∀ op ∈ projectOps (F := F), Spares argPlaces op := by
  unfold projectOps
  simp only [List.forall_mem_cons, List.not_mem_nil, false_imp_iff, implies_true, and_true]
  exact ⟨Spares.of_result (binary_writes ..) rfl (binary_bufs_sub ..) (by decide +kernel),
    Spares.of_result (unary_writes ..) rfl (unary_bufs_sub ..) (by decide +kernel),
    Spares.of_result (unary_writes ..) rfl (unary_bufs_sub ..) (by decide +kernel),
    Spares.of_result (binary_writes ..) rfl (binary_bufs_sub ..) (by decide +kernel)⟩

/-! ## The loop counter -/

/-- Before the loop the counter is set to 0. -/
theorem entry_counter (V : Valuation τ sig (Elt F)) :
    after entryOps V main_v3_1 = (constantI S_ 32 0#32 : (⟨S_, .i32⟩ : BufTy).Contents (Elt F)) := by
  unfold entryOps
  simp only [after_cons, after_nil]
  iterate 4 rw [unary_result_ne _ _ _ _ _ _ (by decide)]
  rw [unary_result, unary_result_ne _ _ _ _ _ _ (by decide), nullary_result]
  rfl

/-- One trip adds 1 to it. -/
theorem turn_counter (V : Valuation τ sig (Elt F)) :
    after turnOps V main_v3_1 = (addi (V main_v3_1 : (⟨S_, .i32⟩ : BufTy).Contents (Elt F)) (constantI S_ 32 1#32) : (⟨S_, .i32⟩ : BufTy).Contents (Elt F)) := by
  unfold turnOps
  simp only [after_cons, after_nil]
  iterate 4 rw [unary_result_ne _ _ _ _ _ _ (by decide)]
  rw [unary_result, binary_result, nullary_result, nullary_result_ne _ _ _ _ (by decide)]
  rfl

/-- Before trip `k` the counter is `k`. -/
theorem counter_at (ops : List (HloOp τ sig (Elt F))) (hops : ∀ op ∈ ops, Spares loopPlaces op)
    (W₀ : Dev nD → Valuation τ sig (Elt F))
    (h0 : ∀ c, W₀ c main_v3_1 = (constantI S_ 32 0#32 : (⟨S_, .i32⟩ : BufTy).Contents (Elt F))) (c : Dev nD) (k : ℕ) :
    atTrip testOps [ops, turnOps] W₀ k c main_v3_1
      = (fun _ => Scf.iv 0#32 1#32 k : (⟨S_, .i32⟩ : BufTy).Contents (Elt F)) := by
  induction k with
  | zero => rw [atTrip_zero, h0, Scf.iv_zero]; rfl
  | succ k ih =>
    rw [atTrip_succ, afterL_cons, afterL_cons, afterL_nil, turn_counter, after_kept hops (by decide +kernel),
      after_kept testOps_spares (by decide +kernel), ih, Scf.iv_succ]
    rfl

/-- The test before trip `k` reads 1 exactly when `k < 511`. -/
theorem test_iff (k : ℕ) (hk : k ≤ 511) : IntOp.cmpi .slt (Scf.iv 0#32 1#32 k) 511#32 = 1#1 ↔ k < 511 :=
  have ht : Scf.trips (0#32) (511#32) (1#32) = 511 := by decide +kernel
  ht ▸ Scf.cmpi_slt_iv_ub_iff (lb := 0#32) (ub := 511#32) (st := 1#32) (by decide +kernel) (ht.symm ▸ hk)

-- the rule for one operation, stated for any thread, is used at a TensorCore thread
set_option backward.isDefEq.respectTransparency.types false in
/-- What the loop rule asks: from the buffers before trip `k`, the loop's test runs its two operations and answers
    whether `k < 511`. -/
theorem test_spec (ops : List (HloOp τ sig (Elt F))) (hops : ∀ op ∈ ops, Spares loopPlaces op)
    (W₀ : Dev nD → Valuation τ sig (Elt F))
    (h0 : ∀ c, W₀ c main_v3_1 = (constantI S_ 32 0#32 : (⟨S_, .i32⟩ : BufTy).Contents (Elt F))) :
    CondSpec (pcfgs (F := F)) defs₀ loops main_while0_cond testOps [ops, turnOps] W₀ 511 := by
  intro k hk c bd
  have hctr := counter_at ops hops W₀ h0 c k
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip testOps [ops, turnOps] W₀ k c) main_v3_1 HostLoop.idx0)
        (HloOp.result _ (atTrip testOps [ops, turnOps] W₀ k c) main_while0c_c_26 HostLoop.idx0) = 1#1) (k < 511)
    rw [nullary_result_ne _ _ _ _ (by decide), nullary_result, hctr]
    exact test_iff k hk
  isplitl [Hb]; · iassumption
  unfold testOps
  rw [after_cons, after_cons, after_nil]
  iassumption

/-! ## The run -/

/-- `main`, from the stretches of its parts. -/
theorem main_chain (c : Dev nD) {opsA opsB ops1 ops2 : List (HloOp τ sig (Elt F))}
    {p0 p1 : Prog (TpuEff nD τ sig (Elt F) (HostLoop.Sig (Pipeline.Sig Λ₀ (Fin 0) fun p => (pcfgs (F := F) p).Adm) 1) .tc) PUnit}
    (e0 : main_part0 (F := F) c = (seq opsA >>= fun _ => p0))
    (e0' : p0 = (seq entryOps >>= fun _ => p1))
    (e0'' : p1 = (HostLoop.enter 0 >>= fun _ => (seq opsB >>= fun _ => pure ⟨⟩)))
    (e1 : main_part1 (F := F) c = (seq ops1 >>= fun _ => pure ⟨⟩))
    (e2 : main_part2 (F := F) c = (seq ops2 >>= fun _ => seq tokenOps)) :
    main (F := F) c = Pipeline.chain ([seq opsA, seq entryOps] ++ HostLoop.enter 0 :: [seq opsB, seq ops1, seq ops2, seq tokenOps, seq projectOps]) := by
  unfold main
  rw [e0, e0', e0'', e1, e2, part3_eq]
  simp only [List.cons_append, List.nil_append, Pipeline.chain, bind_assoc, pure_bind]
  simp only [show ∀ p : Prog (TpuEff nD τ sig (Elt F) (HostLoop.Sig (Pipeline.Sig Λ₀ (Fin 0) fun p => (pcfgs (F := F) p).Adm) 1) .tc) PUnit,
    (p >>= fun _ => pure ⟨⟩) = p from fun p => bind_pure p]

/-- The reference ends; its arguments are unchanged; and its result is `tokenOps` and `projectOps` at buffers holding the
    arguments. -/
theorem reference_run [∀ e, Nonempty (Elt F e)] (m : (ℓ : Loc nD τ sig) → Buf (Elt F) ℓ) (ρ : Dev nD → PrngReg) :
    θ_run (defs (F := F)) (onTc (τ := τ) main) ⟨m, fun _ => 0, ρ⟩ (fun r => ∀ c : Dev nD,
      (∀ b : Ref sig .tc, b.idx.val ∈ argPlaces → (Proc.devRef .tc b : DevRef τ sig).isScoped = false →
        r.2.mem ((c.tc : Thread nD τ).loc b) = m ((c.tc : Thread nD τ).loc b)) ∧
      ∃ W : Valuation τ sig (Elt F),
        (∀ b : Ref sig .tc, b.idx.val ∈ argPlaces → W (Proc.devRef .tc b) = m ((c.tc : Thread nD τ).loc b)) ∧
        r.2.mem ((c.tc : Thread nD τ).loc main_v152) = after projectOps (after tokenOps W) main_v152) := by
  obtain ⟨opsA, p0, e0, hA, p1, e0', p2, e0'', opsB, p3, e3, hB, rfl⟩ := part0_front (F := F) 0
  obtain ⟨ops1, p4, e1, h1, rfl⟩ := part1_front (F := F) 0
  obtain ⟨ops2, p5, e2, h2, rfl⟩ := part2_front (F := F) 0
  obtain ⟨opsL, p6, eL, hL, rfl⟩ := body_front (F := F)
  subst e3
  have hL' : ∀ op ∈ opsL, Spares argPlaces op := fun op h => (hL op h).mono fun i hi => List.mem_cons_of_mem _ hi
  have hT' : ∀ op ∈ testOps (F := F), Spares argPlaces op := fun op h =>
    (testOps_spares op h).mono fun i hi => List.mem_cons_of_mem _ hi
  have nil : Plain ([] : List (List (HloOp τ sig (Elt F)))) := fun _ h => (List.not_mem_nil h).elim
  have run := run_loop (pcfgs (F := F)) defs₀ loops main 0 main_while0_cond main_while0_body rfl
    [opsA, entryOps] [opsL, turnOps] [opsB, ops1, ops2, tokenOps, projectOps] testOps
    (plain_cons hA (plain_cons entryOps_spares nil))
    (plain_cons hL (plain_cons turnOps_spares nil))
    (plain_cons hB (plain_cons h1 (plain_cons h2 (plain_cons tokenOps_spares (plain_cons projectOps_spares nil)))))
    (fun c => main_chain c e0 e0' e0'' e1 e2)
    (by
      rw [eL]
      simp only [List.map_cons, List.map_nil, Pipeline.chain]
      rw [show (seq turnOps >>= fun _ => pure ⟨⟩) = seq turnOps from bind_pure _])
    511 m ρ
    (test_spec opsL hL _ fun c => by
      unfold entryContents
      rw [afterL_cons, afterL_cons, afterL_nil]
      exact entry_counter _)
  have keepIn : ∀ (c : Dev nD) (b : Ref sig .tc), b.idx.val ∈ argPlaces →
      entryContents [opsA, entryOps] m c (Proc.devRef .tc b) = m ((c.tc : Thread nD τ).loc b) := fun c b hb => by
    unfold entryContents
    rw [afterL_cons, afterL_cons, afterL_nil, after_kept entryOps_spares hb, after_kept hA hb]
  have keepAt : ∀ (c : Dev nD) (b : Ref sig .tc), b.idx.val ∈ argPlaces → ∀ k,
      atTrip testOps [opsL, turnOps] (entryContents [opsA, entryOps] m) k c (Proc.devRef .tc b) = m ((c.tc : Thread nD τ).loc b) := fun c b hb k => by
    induction k with
    | zero => rw [atTrip_zero, keepIn c b hb]
    | succ k ih =>
      rw [atTrip_succ, afterL_cons, afterL_cons, afterL_nil, after_kept turnOps_spares hb, after_kept hL' hb, after_kept hT' hb, ih]
  refine (θ_run _ _ _).mono (fun r hr c => ?_) run
  refine ⟨fun b hb hs => ?_, after ops2 (after ops1 (after opsB (after testOps
    (atTrip testOps [opsL, turnOps] (entryContents [opsA, entryOps] m) 511 c)))), fun b hb => ?_, ?_⟩
  · rw [hr c b hs]
    unfold finalContents
    rw [afterL_cons, afterL_cons, afterL_cons, afterL_cons, afterL_cons, afterL_nil, after_kept projectOps_spares hb,
      after_kept tokenOps_spares hb, after_kept h2 hb, after_kept h1 hb, after_kept hB hb, after_kept hT' hb, keepAt c b hb]
  · rw [after_kept h2 hb, after_kept h1 hb, after_kept hB hb, after_kept hT' hb, keepAt c b hb]
  · rw [hr c main_v152 (by decide)]
    unfold finalContents
    rw [afterL_cons, afterL_cons, afterL_cons, afterL_cons, afterL_cons, afterL_nil]

end Cert.Proof

end
-- ==== Proof.RefValue.lean ====
/-
  What the reference's last twelve operations compute. Each cloud's sequence is the class token followed by 512 group tokens;
  positions are laid out alike; the result reads the first token only, so it is `projected` whatever the group tokens
  and their positions hold.
-/
module

public import proofs.«01_k».proof.Proof.RefParts
public import proofs.«01_k».proof.Proof.Projected
public import Idealize.ShloMosaic.Lib.StackMember
public import Idealize.ShloMosaic.Lib.ValueLayout
public import Idealize.ShloMosaic.Lib.Pipeline.Value
public import Idealize.ShloMosaic.Lib.StableHlo.RunClose

@[expose] public section

noncomputable section

namespace Cert.Proof

open Idealize.ShloMosaic Idealize.ShloMosaic.StableHlo Idealize.ShloMosaic.ValueIdx Idealize.ShloMosaic.TcCoe
open Cert.ReferenceIdeal Cert.ReferenceIdeal.Gen

/-! ## The first tokens -/

/-- One token broadcast to 4 clouds and put before other tokens: its entry at any cloud. -/
theorem first_of_concat (x : FVec Ideal S1x1x1408 .f32) (y : FVec Ideal S4x512x1408 .f32) (p : Fin 4) (k : Fin 1408) :
    concatenate S4x513x1408 1 [⟨S4x1x1408, broadcastInDim S4x1x1408 ![0, 1, 2] bcast_S1x1x1408_S4x1x1408_0_1_2 x⟩, ⟨S4x512x1408, y⟩]
      concatenates_S4x1x1408_S4x512x1408_S4x513x1408_d1 (ix3 p (0 : Fin 513) k) = x (ix3 0 0 k) := by
  refine (concatenate_pair_apply_left (t := S4x513x1408) (s₁ := S4x1x1408) (s₂ := S4x512x1408) 1 _ _ _ (ix3 p (0 : Fin 513) k) rfl
    (ix3 p (0 : Fin 1) k) (fun b => match b with | ⟨0, _⟩ => rfl | ⟨1, _⟩ => rfl | ⟨2, _⟩ => rfl)).trans ?_
  exact broadcastInDim_apply _ _ _ _ (ix3 (0 : Fin 1) (0 : Fin 1) k) fun a => match a with
    | ⟨0, _⟩ => rfl | ⟨1, _⟩ => rfl | ⟨2, _⟩ => rfl

/-- The first token of each cloud, tokens plus positions, as a matrix of 4 rows. -/
abbrev firstTokens (token position : FVec Ideal S1x1x1408 .f32) (y z : FVec Ideal S4x512x1408 .f32) : FVec Ideal S4x1408 .f32 :=
  shapeCast S4x1408 (extractStridedSlice S4x1x1408 ![0, 0, 0]
    (addf
      (concatenate S4x513x1408 1 [⟨S4x1x1408, broadcastInDim S4x1x1408 ![0, 1, 2] bcast_S1x1x1408_S4x1x1408_0_1_2 token⟩, ⟨S4x512x1408, y⟩]
        concatenates_S4x1x1408_S4x512x1408_S4x513x1408_d1)
      (concatenate S4x513x1408 1 [⟨S4x1x1408, broadcastInDim S4x1x1408 ![0, 1, 2] bcast_S1x1x1408_S4x1x1408_0_1_2 position⟩, ⟨S4x512x1408, z⟩]
        concatenates_S4x1x1408_S4x512x1408_S4x513x1408_d1))
    slices_S4x513x1408_S4x1x1408_0_0_0) shapeCasts_S4x1x1408_S4x1408

/-- Every row of them is the class token plus its position. -/
theorem firstTokens_apply (token position : FVec Ideal S1x1x1408 .f32) (y z : FVec Ideal S4x512x1408 .f32) (p : Fin 4) (k : Fin 1408) :
    firstTokens token position y z (ix2 p k) = token (ix3 0 0 k) + position (ix3 0 0 k) := by
  rw [firstTokens, shapeCast_apply _ _ (ix2 p k) (ix3 p (0 : Fin 1) k) (by
    rw [Shape.rowMajor_val_three, Shape.rowMajor_val_two]
    show (p.val * 1 + 0) * 1408 + k.val = p.val * 1408 + k.val
    omega)]
  rw [extractStridedSlice_apply _ _ _ (ix3 p (0 : Fin 1) k) (ix3 p (0 : Fin 513) k) (fun a => match a with
    | ⟨0, _⟩ => (Nat.zero_add _).symm | ⟨1, _⟩ => rfl | ⟨2, _⟩ => (Nat.zero_add _).symm)]
  show _ + _ = _
  rw [first_of_concat, first_of_concat]

/-! ## The projection -/

/-- The product with the transposed weights plus the broadcast bias is `projected`. -/
theorem projection_eq (token position : FVec Ideal S1x1x1408 .f32) (y z : FVec Ideal S4x512x1408 .f32)
    (weights : FVec Ideal S1024x1408 .f32) (bias : FVec Ideal S1024 .f32) :
    addf (Host.dotGeneral dot_S4x1408_S1408x1024_S4x1024_1_0_0_1_n_n none (firstTokens token position y z)
        (transpose S1408x1024 [1, 0] weights transposes_S1024x1408_S1408x1024_1_0))
      (broadcastInDim S4x1024 ![0, 1] bcast_S1x1024_S4x1024_0_1 (broadcastInDim S1x1024 ![1] bcast_S1024_S1x1024_1 bias))
      = projected token position weights bias := by
  funext i
  obtain ⟨p, j, rfl⟩ : ∃ (p : Fin 4) (j : Fin 1024), i = ix2 p j := ⟨i 0, i 1, eq_ix2 i⟩
  show _ + _ = projectedAt token position weights bias j
  unfold projectedAt
  refine congrArg₂ (· + ·) ?_ ?_
  · refine (StackMember.dotGeneral_plain_apply (m := 4) (k := 1408) (n := 1024) none _ _ p j).trans ?_
    refine Finset.sum_congr rfl fun k _ => ?_
    rw [firstTokens_apply, transpose_ix2_apply]
  · rw [broadcastInDim_oneRow_apply]
    exact broadcastInDim_apply _ _ _ _ (ix1 j) fun a => match a with | ⟨0, _⟩ => rfl

/-! ## The last twelve operations -/

/-- The result of the last twelve operations, from the buffers before them. -/
theorem tail_value (W : Valuation τ sig (Elt Ideal)) :
    after projectOps (after tokenOps W) main_v152 = projected (W main_arg18) (W main_arg19) (W main_arg16) (W main_arg17) := by
  rw [← projection_eq (W main_arg18) (W main_arg19) (W main_v123) (W main_v140) (W main_arg16) (W main_arg17)]
  unfold projectOps tokenOps
  after_results
  rfl

end Cert.Proof

end
-- ==== Proof.lean ====
/-
  The five claims. The kernel's run, and that it changes no argument, are generated; its result array is `projected`
  (Proof/KernelValue.lean). The reference's run is `reference_run` (Proof/RefRun.lean) and its result is `projected` of its own
  arguments (Proof/RefValue.lean). From memories that agree on the arguments the two results are then equal. The idealized kernel is
  the kernel's own text, no operation replaced.
-/
module

public import proofs.«01_k».proof.Defs
public import proofs.«01_k».proof.Proof.Gen.Kernel.Frame
public import proofs.«01_k».proof.Proof.KernelValue
public import proofs.«01_k».proof.Proof.RefRun
public import proofs.«01_k».proof.Proof.RefValue
public import Idealize.ShloMosaic.Lib.Quiescent

@[expose] public section

noncomputable section

namespace Cert.Proof

open Idealize.ShloMosaic Idealize.SL.Sem

section Reference

open Cert.ReferenceIdeal

/-- The reference run: its result is `projected` of its arguments, which are unchanged. -/
theorem reference_value (m : (ℓ : Loc nD τ sig) → Buf (Elt Ideal) ℓ) (ρ : Dev nD → PrngReg) :
    θ_run (defs (F := Ideal)) (onTc (τ := τ) main) ⟨m, fun _ => 0, ρ⟩ (fun r => ∀ c : Dev nD,
      r.2.mem ((c.tc : Thread nD τ).loc main_v152)
        = projected (m ((c.tc : Thread nD τ).loc main_arg18)) (m ((c.tc : Thread nD τ).loc main_arg19))
            (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run _ _ _).mono (fun r h c => by
    obtain ⟨hk, W, hW, hv⟩ := h c
    refine ⟨?_, hk main_arg0 (by decide +kernel) rfl,
      hk main_arg1 (by decide +kernel) rfl,
      hk main_arg2 (by decide +kernel) rfl,
      hk main_arg3 (by decide +kernel) rfl,
      hk main_arg4 (by decide +kernel) rfl,
      hk main_arg5 (by decide +kernel) rfl,
      hk main_arg6 (by decide +kernel) rfl,
      hk main_arg7 (by decide +kernel) rfl,
      hk main_arg8 (by decide +kernel) rfl,
      hk main_arg9 (by decide +kernel) rfl,
      hk main_arg10 (by decide +kernel) rfl,
      hk main_arg11 (by decide +kernel) rfl,
      hk main_arg12 (by decide +kernel) rfl,
      hk main_arg13 (by decide +kernel) rfl,
      hk main_arg14 (by decide +kernel) rfl,
      hk main_arg15 (by decide +kernel) rfl,
      hk main_arg16 (by decide +kernel) rfl,
      hk main_arg17 (by decide +kernel) rfl,
      hk main_arg18 (by decide +kernel) rfl,
      hk main_arg19 (by decide +kernel) rfl,
      hk main_arg20 (by decide +kernel) rfl,
      hk main_arg21 (by decide +kernel) rfl,
      hk main_arg22 (by decide +kernel) rfl,
      hk main_arg23 (by decide +kernel) rfl⟩
    rw [hv, tail_value, hW main_arg18 (by decide +kernel), hW main_arg19 (by decide +kernel),
      hW main_arg16 (by decide +kernel), hW main_arg17 (by decide +kernel)])
    (reference_run m ρ)

end Reference

/-- The reference ends with its arguments unchanged; it declares no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (reference_value m ρ)

/-- The kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => result m c, ?_, ?_⟩
  · exact (θ_run _ _ _).mono (fun r h c => ⟨(h c).1.trans (kernel_value m c), (h c).2⟩) (Cert.KernelIdeal.Value.run_blocks m g)
  · refine (θ_run _ _ _).mono (fun r h c => ⟨(h c).1.trans ?_, (h c).2⟩) (reference_value m' g')
    obtain ⟨-, -, -, -, -, -, -, -, -, -, -, -, -, -, -, -, a16, a17, a18, a19, -, -, -, -⟩ := hagree c
    rw [a16, a17, a18, a19]

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
